-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "fill" .f32 0x3586386D#32 ((1 / 999980 : ℝ) : EReal)
  ∧ IdealRules.named_const.Statement Cert.KernelIdeal.κ "entropy" .f32 0xBFBCF9CF#32 (((1 / 10) * (Real.log (387420489 / 999980000000000)) : ℝ) : EReal)
  ∧ IdealRules.named_const.Statement Cert.KernelIdeal.κ "fill_less_label" .f32 0xBF666656#32 ((-899981 / 999980 : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S2048x100000 : Shape := ⟨2, ![2048, 100000]⟩
abbrev S2048 : Shape := ⟨1, ![2048]⟩
abbrev S_ : Shape := ⟨0, ![]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x100000 .f32) (main_arg1 : IVec S2048 32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 100000#32
  let main_v6 : IVec S2048 32 := broadcastInDim S2048 ![] bcast_S_S2048 main_c_1
  let main_v7 : IVec S2048 1 := cmpi .slt main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S2048x100000 : Shape := ⟨2, ![2048, 100000]⟩
abbrev S2048 : Shape := ⟨1, ![2048]⟩
abbrev S64x32x1 : Shape := ⟨3, ![64, 32, 1]⟩
abbrev S1x1 : Shape := ⟨2, ![1, 1]⟩
abbrev S32x100000 : Shape := ⟨2, ![32, 100000]⟩
abbrev S1x32x1 : Shape := ⟨3, ![1, 32, 1]⟩
abbrev S2 : Shape := ⟨1, ![2]⟩
abbrev S32x1 : Shape := ⟨2, ![32, 1]⟩
abbrev S32 : Shape := ⟨1, ![32]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 4
  | .smem => 2
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S64x32x1, .i32⟩
  | .hbm, ⟨3, _⟩ => ⟨S1x1, .f32⟩
  | .hbm, ⟨4, _⟩ => ⟨S_, .f32⟩
  | .local _ .vmem, ⟨0, _⟩ => ⟨S32x100000, .f32⟩
  | .local _ .vmem, ⟨1, _⟩ => ⟨S32x100000, .f32⟩
  | .local _ .vmem, ⟨2, _⟩ => ⟨S1x32x1, .i32⟩
  | .local _ .vmem, ⟨3, _⟩ => ⟨S1x32x1, .i32⟩
  | .local _ .smem, ⟨0, _⟩ => ⟨S1x1, .f32⟩
  | .local _ .smem, ⟨1, _⟩ => ⟨S2, .f32⟩
  | _, _ => ⟨S2048x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v43 : BitVec 1 := Scalar.cmpi .eq arg0 c63_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "entropy" => some (((1 / 10) * (Real.log (387420489 / 999980000000000)) : ℝ) : EReal)
  | "fill" => some ((1 / 999980 : ℝ) : EReal)
  | "fill_less_label" => some ((-899981 / 999980 : ℝ) : EReal)
  | _ => none
-- ==== ReferenceIdeal.lean ====
abbrev S2048x100000 : Shape := ⟨2, ![2048, 100000]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S1 : Shape := ⟨1, ![1]⟩

abbrev nBuf : Space → Nat
  | .hbm => 66
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x100000, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x1, .i32⟩
  | .hbm, ⟨27, _⟩ => ⟨S2048x2, .i32⟩
  | .hbm, ⟨28, _⟩ => ⟨S2048, .f32⟩
  | .hbm, ⟨29, _⟩ => ⟨S2048x100000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S2048, .f32⟩
  | .hbm, ⟨34, _⟩ => ⟨S2048x100000, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048x1, .i1⟩
  | .hbm, ⟨39, _⟩ => ⟨S2048x1, .f32⟩
  | .hbm, ⟨40, _⟩ => ⟨S2048x100000, .f32⟩
  | .hbm, ⟨41, _⟩ => ⟨S2048x100000, .f32⟩
  | .hbm, ⟨42, _⟩ => ⟨S_, .f32⟩
  | .hbm, ⟨43, _⟩ => ⟨S2048x100000, .f32⟩
  | .hbm, ⟨44, _⟩ => ⟨S2048x100000, .i1⟩
  | .hbm, ⟨45, _⟩ => ⟨S_, .f32⟩
  | .hbm, ⟨46, _⟩ => ⟨S2048x100000, .f32⟩
  | .hbm, ⟨47, _⟩ => ⟨S2048x100000, .i1⟩
  | .hbm, ⟨48, _⟩ => ⟨S_, .f32⟩
  | .hbm, ⟨49, _⟩ => ⟨S_, .f32⟩
  | .hbm, ⟨50, _⟩ => ⟨S2048x100000, .f32⟩
  | .hbm, ⟨51, _⟩ => ⟨S2048x100000, .f32⟩
  | .hbm, ⟨52, _⟩ => ⟨S2048x100000, .f32⟩
  | .hbm, ⟨53, _⟩ => ⟨S2048x100000, .f32⟩
  | .hbm, ⟨54, _⟩ => ⟨S2048x100000, .f32⟩
  | .hbm, ⟨55, _⟩ => ⟨S_, .f32⟩
  | .hbm, ⟨56, _⟩ => ⟨S_, .f32⟩
  | .hbm, ⟨57, _⟩ => ⟨S2048x100000, .f32⟩
  | .hbm, ⟨58, _⟩ => ⟨S2048x100000, .f32⟩
  | .hbm, ⟨59, _⟩ => ⟨S_, .f32⟩
  | .hbm, ⟨60, _⟩ => ⟨S_, .f32⟩
  | .hbm, ⟨61, _⟩ => ⟨S2048, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_call1_v0 : Ref sig .tc := ⟨.hbm, 56, rfl⟩
abbrev main_call1_v1 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_c_14 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.Cells.lean ====
module

public import proofs.«01_k».proof.Proof.Gen.KernelIdeal.Frame
public import Idealize.ShloMosaic.Lib.Pipeline.Value
public import Idealize.ShloMosaic.Lib.CellWrites
public import Idealize.ShloMosaic.Lib.Pointwise

/-
  What one grid point leaves in the two carried cells and in the output cell, in terms of the block's numerator
  (`k0_pay6`) and denominator (`k0_pay7`): the first point stores them, every later point adds them, and the last point
  also stores the quotient.
-/

@[expose] public section

set_option maxRecDepth 16384

noncomputable section

namespace Cert.KernelIdeal.Cells

open Cert.KernelIdeal Cert.KernelIdeal.Gen Idealize.ShloMosaic Idealize.ShloMosaic.TcCoe Idealize.SL.Sem
open Idealize.ShloMosaic.Pipeline (Dat)

variable {F : FTy → Type} [FloatOps F] [Named F]

/-- Two zero offsets, as a constant function. -/
theorem hz2 : (![0, 0] : Fin 2 → Nat) = fun _ => 0 := funext fun a => by fin_cases a <;> rfl
/-- Three zero offsets, as a constant function. -/
theorem hz3 : (![0, 0, 0] : Fin 3 → Nat) = fun _ => 0 := funext fun a => by fin_cases a <;> rfl

/-- The first grid point leaves the block's numerator in the first carried cell, its denominator in the second. -/
theorem sout_A (c : Dev nD) (i : grid0.Coords) (arg1 : Memref sig .tc .vmem S32x100000 .f32) (harg1 : arg1.IsWhole) (arg2 : Memref sig .tc .vmem S1x32x1 .i32) (harg2 : arg2.IsWhole) (arg3 : Memref sig .tc .smem S1x1 .f32) (harg3 : arg3.IsWhole) (arg4 : Memref sig .tc .smem S2 .f32) (harg4 : arg4.IsWhole) (hc0 : cond0_0 i) (hc1 : ¬cond0_1 i) (hc2 : ¬cond0_2 i)
    (x0 : Vec F S32x100000 .f32) (x1 : Vec F S1x32x1 .i32) (y : S2.Idx) :
    sout0_A_0 c i arg1 harg1 arg2 harg2 arg3 harg3 arg4 harg4 hc0 hc1 hc2 x0 x1 y
      = if (y 0).val = 0 then k0_pay6 x0 x1 else k0_pay7 x1 := by
  unfold sout0_A_0 kernelRun0_A
  dsimp only
  sl_unfold_words
  simp only [View.readAt_eq_ld, harg1.read_unread, harg2.read_unread, harg4.read_unread, View.ld_unit_zero (S := S32x100000) hz2, View.ld_unit_zero (S := S1x32x1) hz3]
  rw [View.read_writes_cons_cell, View.read_writes_cons_cell]
  obtain ⟨k, rfl⟩ : ∃ k : Fin 2, y = ix1 k := ⟨y 0, eq_ix1 y⟩
  fin_cases k
  · rfl
  · rfl

/-- A grid point between adds them to what the two cells held. -/
theorem sout_B (c : Dev nD) (i : grid0.Coords) (arg1 : Memref sig .tc .vmem S32x100000 .f32) (harg1 : arg1.IsWhole) (arg2 : Memref sig .tc .vmem S1x32x1 .i32) (harg2 : arg2.IsWhole) (arg3 : Memref sig .tc .smem S1x1 .f32) (harg3 : arg3.IsWhole) (arg4 : Memref sig .tc .smem S2 .f32) (harg4 : arg4.IsWhole) (hc0 : ¬cond0_0 i) (hc1 : cond0_1 i) (hc2 : ¬cond0_2 i)
    (x0 : Vec F S32x100000 .f32) (x1 : Vec F S1x32x1 .i32) (xs0 : Vec F S2 .f32) (y : S2.Idx) :
    sout0_B_0 c i arg1 harg1 arg2 harg2 arg3 harg3 arg4 harg4 hc0 hc1 hc2 x0 x1 xs0 y
      = Scalar.addf (xs0 y) (if (y 0).val = 0 then k0_pay6 x0 x1 else k0_pay7 x1) := by
  unfold sout0_B_0 kernelRun0_B
  dsimp only
  sl_unfold_words
  simp only [View.readAt_eq_ld, harg1.read_unread, harg2.read_unread, harg4.read_unread, View.ld_unit_zero (S := S32x100000) hz2, View.ld_unit_zero (S := S1x32x1) hz3]
  rw [View.read_writes_cons_cell, View.read_writes_cons_cell]
  obtain ⟨k, rfl⟩ : ∃ k : Fin 2, y = ix1 k := ⟨y 0, eq_ix1 y⟩
  obtain rfl | rfl : k = 0 ∨ k = 1 := by omega
  · exact congrArg (fun z : Elt F .f32 => Scalar.addf z (k0_pay6 x0 x1)) (congrArg xs0 (funext fun a => by fin_cases a; rfl))
  · exact congrArg (fun z : Elt F .f32 => Scalar.addf z (k0_pay7 x1)) (congrArg xs0 (funext fun a => by fin_cases a; rfl))

/-- The last grid point leaves the quotient of the two cells' final contents in the output cell. -/
theorem out_C (c : Dev nD) (i : grid0.Coords) (arg1 : Memref sig .tc .vmem S32x100000 .f32) (harg1 : arg1.IsWhole) (arg2 : Memref sig .tc .vmem S1x32x1 .i32) (harg2 : arg2.IsWhole) (arg3 : Memref sig .tc .smem S1x1 .f32) (harg3 : arg3.IsWhole) (arg4 : Memref sig .tc .smem S2 .f32) (harg4 : arg4.IsWhole) (hc0 : ¬cond0_0 i) (hc1 : cond0_1 i) (hc2 : cond0_2 i)
    (x0 : Vec F S32x100000 .f32) (x1 : Vec F S1x32x1 .i32) (xs0 : Vec F S2 .f32) (y : S1x1.Idx) :
    out0_C_2 c i arg1 harg1 arg2 harg2 arg3 harg3 arg4 harg4 hc0 hc1 hc2 x0 x1 xs0 y
      = Scalar.divf (Scalar.addf (xs0 (ix1 0)) (k0_pay6 x0 x1)) (Scalar.addf (xs0 (ix1 1)) (k0_pay7 x1)) := by
  unfold out0_C_2 kernelRun0_C
  dsimp only
  sl_unfold_words
  simp only [View.readAt_eq_ld, harg1.read_unread, harg2.read_unread, harg4.read_unread, View.ld_unit_zero (S := S32x100000) hz2, View.ld_unit_zero (S := S1x32x1) hz3]
  rw [View.read_writes_eq_canon _ _ _ (View.cover_of_tiledL _ S1x1.size (by sl_kernel_rfl)), View.canon_unit_zero hz2]
  exact congrArg₂ (fun z w : Elt F .f32 => Scalar.divf (Scalar.addf z (k0_pay6 x0 x1)) (Scalar.addf w (k0_pay7 x1)))
    (congrArg xs0 (funext fun a => by fin_cases a; rfl)) (congrArg xs0 (funext fun a => by fin_cases a; rfl))

/-- The last grid point adds its block's numerator and denominator to the two cells as well. -/
theorem sout_C (c : Dev nD) (i : grid0.Coords) (arg1 : Memref sig .tc .vmem S32x100000 .f32) (harg1 : arg1.IsWhole) (arg2 : Memref sig .tc .vmem S1x32x1 .i32) (harg2 : arg2.IsWhole) (arg3 : Memref sig .tc .smem S1x1 .f32) (harg3 : arg3.IsWhole) (arg4 : Memref sig .tc .smem S2 .f32) (harg4 : arg4.IsWhole) (hc0 : ¬cond0_0 i) (hc1 : cond0_1 i) (hc2 : cond0_2 i)
    (x0 : Vec F S32x100000 .f32) (x1 : Vec F S1x32x1 .i32) (xs0 : Vec F S2 .f32) (y : S2.Idx) :
    sout0_C_0 c i arg1 harg1 arg2 harg2 arg3 harg3 arg4 harg4 hc0 hc1 hc2 x0 x1 xs0 y
      = Scalar.addf (xs0 y) (if (y 0).val = 0 then k0_pay6 x0 x1 else k0_pay7 x1) := by
  unfold sout0_C_0 kernelRun0_C
  dsimp only
  sl_unfold_words
  simp only [View.readAt_eq_ld, harg1.read_unread, harg2.read_unread, harg4.read_unread, View.ld_unit_zero (S := S32x100000) hz2, View.ld_unit_zero (S := S1x32x1) hz3]
  rw [View.read_writes_cons_cell, View.read_writes_cons_cell]
  obtain ⟨k, rfl⟩ : ∃ k : Fin 2, y = ix1 k := ⟨y 0, eq_ix1 y⟩
  obtain rfl | rfl : k = 0 ∨ k = 1 := by omega
  · exact congrArg (fun z : Elt F .f32 => Scalar.addf z (k0_pay6 x0 x1)) (congrArg xs0 (funext fun a => by fin_cases a; rfl))
  · exact congrArg (fun z : Elt F .f32 => Scalar.addf z (k0_pay7 x1)) (congrArg xs0 (funext fun a => by fin_cases a; rfl))

end Cert.KernelIdeal.Cells

end
-- ==== Proof.Sums.lean ====
module

public import proofs.«01_k».proof.Proof.Cells

/-
  The kernel's result over the extended reals: the sum of the 64 blocks' numerators over the sum of their denominators.
-/

@[expose] public section

set_option maxRecDepth 16384

noncomputable section

namespace Cert.KernelIdeal.Sums

open Cert.KernelIdeal Cert.KernelIdeal.Gen Cert.KernelIdeal.Cells Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The sum of the row terms of grid point `n`'s 32 rows. -/
def num (c : Dev nD) (n : ℕ) (h : n < cfg0.N) : EReal :=
  k0_pay6 (F := Ideal) (iblk m c 0 ⟨n, h⟩) (iblk m c 1 ⟨n, h⟩)

/-- The number of grid point `n`'s 32 rows whose target is not padding, as a float. -/
def den (c : Dev nD) (n : ℕ) (h : n < cfg0.N) : EReal :=
  k0_pay7 (F := Ideal) (iblk m c 1 ⟨n, h⟩)

/-- After grid point `n` the scratch's first cell holds the sum of the row terms of points `0 … n`, its second the
    number of their rows that are not padding. -/
theorem scratch_eq (c : Dev nD) : ∀ (n : ℕ) (h : n < cfg0.N) (hn : n < 64) (y : S2.Idx),
    (outsAt0 m c n h).2 y = (if (y 0).val = 0 then ∑ k : Fin (n + 1), num m c k (by omega)
      else ∑ k : Fin (n + 1), den m c k (by omega) : EReal)
  | 0, h, hn, y => by
    have e := outsAt0_A m c ⟨0, h⟩ rfl (by dsimp only; omega) (by dsimp only; omega)
    rw [show outsAt0 m c 0 h = _ from e]
    dsimp only
    rw [sout_A]
    simp only [Nat.reduceAdd, Finset.univ_unique, Finset.sum_singleton]
    rfl
  | n + 1, h, hn, y => by
    have ih := scratch_eq c n (Nat.lt_of_succ_lt h) (by omega) y
    have key : (outsAt0 m c (n + 1) h).2 y
        = ((show EReal from (outsAt0 m c n (Nat.lt_of_succ_lt h)).2 y)
          + (if (y 0).val = 0 then num m c (n + 1) h else den m c (n + 1) h) : EReal) := by
      by_cases h2 : (n + 1) % 64 = 63
      · have e := outsAt0_C m c ⟨n + 1, h⟩ (by dsimp only; omega) (by dsimp only; omega) h2
        rw [show outsAt0 m c (n + 1) h = _ from e]
        dsimp only
        rw [sout_C]
        rfl
      · have e := outsAt0_B m c ⟨n + 1, h⟩ (by dsimp only; omega) (by dsimp only; omega) h2
        rw [show outsAt0 m c (n + 1) h = _ from e]
        dsimp only
        rw [sout_B]
        rfl
    rw [key, ih, Fin.sum_univ_castSucc (n := n + 1), Fin.sum_univ_castSucc (n := n + 1)]
    split <;> rfl

/-- The loss: the sum of all row terms over the number of rows that are not padding. -/
def loss (c : Dev nD) : EReal :=
  Ideal.div (∑ k : Fin 64, num m c k (by rw [show cfg0.N = 64 from N_0]; exact k.isLt)) (∑ k : Fin 64, den m c k (by rw [show cfg0.N = 64 from N_0]; exact k.isLt))

/-- The last grid point. -/
abbrev tLast : Fin cfg0.N := ⟨63, by rw [show cfg0.N = 64 from N_0]; decide⟩

/-- After the last grid point the output's staging buffer holds the loss. -/
theorem out_last (c : Dev nD) (t : Fin cfg0.N) (ht : t.val = 63) (y : S1x1.Idx) : (outsAt0 m c t.val t.isLt).1 y = loss m c := by
  obtain rfl : t = tLast := Fin.ext ht
  have e := outsAt0_C m c tLast (by decide) (by decide) (by decide)
  rw [e]
  dsimp only
  rw [out_C]
  have s0 := scratch_eq m c 62 (by decide) (by decide) (ix1 0)
  have s1 := scratch_eq m c 62 (by decide) (by decide) (ix1 1)
  unfold loss
  rw [Fin.sum_univ_castSucc (n := 63), Fin.sum_univ_castSucc (n := 63)]
  exact congrArg₂ (fun z w : EReal => Ideal.div (z + num m c 63 _) (w + den m c 63 _)) s0 s1

/-- The result array as the region leaves it: its one cell holds the loss. -/
abbrev result (c : Dev nD) : Buf (Elt Ideal) ((c : Thread nD τ).loc main_v1) := fun _ => loss m c

/-- What is written back to the result array, at the last grid point, is the loss. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h3 : t.val = 63 := by have := (flush0_2 t).mp hf; have := t.isLt; omega
  show (cfg0.win 2).cut (grid0.coords t) ((dats m 0 c).after 2 t) = _
  rw [after0_2]
  funext y
  exact out_last m c t h3 _

/-- After the region the result array's one cell holds the loss. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The one host operation after the region, a reshape of the 1×1 array to a scalar, leaves the loss. -/
theorem tail_eq (c : Dev nD) :
    Pipeline.afterTail₀ cfgs (dats m) 0 (V0 m) [hostOps1] c main_v2 = fun _ => loss m c := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v1)
      = result m c :=
    (Pipeline.withArrays_arr spec0 (by decide) c (V0 m c) _ 2).trans (final_o m c)
  rw [e]
  rfl

/-- Every run of the kernel ends with the result at the loss and the arguments unchanged. -/
theorem run : θ_run defs (onTc (τ := τ) (main (F := Ideal))) ⟨m, fun _ => 0, ρ⟩ fun r => ∀ c : Dev nD,
      r.2.mem ((c.tc : Thread nD τ).loc main_v2) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c))⟩)
    (run_main m ρ)

end Cert.KernelIdeal.Sums

end
-- ==== Proof.RowMath.lean ====
module

public import Mathlib.Analysis.SpecialFunctions.Log.Basic
public import Mathlib.Algebra.BigOperators.Fin

/-
  The real-number identity behind the claim, for one row of predictions.
-/

@[expose] public section

noncomputable section

namespace Cert.RowMath

/-- The kernel's term for one row `f` with target `k`: nothing when the target is the padding index 0, else the
    closed form over the row's sum, its column 0 and its target column. -/
def rowTerm (f : Fin 100000 → ℝ) (k : Fin 100000) : ℝ :=
  if k = 0 then 0
  else 1 / 10 * Real.log (387420489 / 999980000000000) - 1 / 999980 * ∑ c, f c + 1 / 999980 * f 0 + -899981 / 999980 * f k

/-- The reference's divergence term at one column `c` of the row: nothing in a padding row or in column 0, the label
    weight's term at the target column, the fill weight's term elsewhere. -/
def cell (f : Fin 100000 → ℝ) (k c : Fin 100000) : ℝ :=
  if k = 0 ∨ c = 0 then 0
  else if c = k then 9 / 10 * (Real.log (9 / 10) - f c) else 1 / 999980 * (Real.log (1 / 999980) - f c)

/-- The entropy constant is a tenth of the fill weight's logarithm plus nine tenths of the label weight's. -/
theorem entropy_eq : 1 / 10 * Real.log (387420489 / 999980000000000)
    = 1 / 10 * Real.log (1 / 999980) + 9 / 10 * Real.log (9 / 10) := by
  have h : (387420489 / 999980000000000 : ℝ) = 1 / 999980 * (9 / 10) ^ 9 := by norm_num
  rw [h, Real.log_mul (by norm_num) (by norm_num), Real.log_pow]
  push_cast
  ring

/-- A row's divergence terms sum to the kernel's closed form. -/
theorem sum_cell (f : Fin 100000 → ℝ) (k : Fin 100000) : ∑ c, cell f k c = rowTerm f k := by
  by_cases hk : k = 0
  · simp [cell, rowTerm, hk]
  · have e : ∀ c, cell f k c = 1 / 999980 * (Real.log (1 / 999980) - f c)
        + ((if c = 0 then -(1 / 999980 * (Real.log (1 / 999980) - f c)) else 0)
        + (if c = k then 9 / 10 * (Real.log (9 / 10) - f c) - 1 / 999980 * (Real.log (1 / 999980) - f c) else 0)) := by
      intro c
      unfold cell
      by_cases h0 : c = 0
      · subst h0
        rw [if_pos (Or.inr rfl), if_pos rfl, if_neg (fun h => hk h.symm)]
        ring
      · rw [if_neg (by tauto), if_neg h0]
        split_ifs <;> ring
    rw [Finset.sum_congr rfl fun c _ => e c, Finset.sum_add_distrib, Finset.sum_add_distrib, Finset.sum_ite_eq' Finset.univ,
      Finset.sum_ite_eq' Finset.univ, if_pos (Finset.mem_univ _), if_pos (Finset.mem_univ _), ← Finset.mul_sum,
      Finset.sum_sub_distrib, Finset.sum_const, Finset.card_univ, Fintype.card_fin, rowTerm, if_neg hk, entropy_eq, nsmul_eq_mul]
    push_cast
    ring

end Cert.RowMath

end
-- ==== Proof.Words.lean ====
module

public import Idealize.ShloMosaic.Lib.Pointwise
public import Idealize.ShloMosaic.Lib.WordCmp

/-
  Facts both programs' values use: sums of reals in the extended reals, and comparisons of target indices.
-/

@[expose] public section

noncomputable section

namespace Cert.Words

open Idealize.ShloMosaic

/-- A finite sum of reals, taken in the extended reals, is the reals' sum. -/
theorem sum_real {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- The test that a target's word isn't zero. -/
theorem ne_bit (k : Fin 100000) : IntOp.cmpi .ne (BitVec.ofNat 32 k.val) 0#32 = BitVec.ofBool (decide (k ≠ 0)) := by
  have h := k.isLt
  rw [WordCmp.cmpi_ne_ofNat (by omega) (by omega)]
  congr 1
  exact decide_eq_decide.mpr (not_congr ⟨fun e => Fin.ext e, fun e => congrArg Fin.val e⟩)

/-- The test that a column's word is the target's. -/
theorem eq_bit (c k : Fin 100000) : IntOp.cmpi .eq (BitVec.ofNat 32 c.val) (BitVec.ofNat 32 k.val) = BitVec.ofBool (decide (c = k)) := by
  have h := k.isLt
  have h' := c.isLt
  rw [WordCmp.cmpi_eq_ofNat (by omega) (by omega)]
  congr 1
  exact decide_eq_decide.mpr ⟨fun e => Fin.ext e, fun e => congrArg Fin.val e⟩

end Cert.Words

end
-- ==== Proof.Payload.lean ====
module

public import proofs.«01_k».proof.Proof.Gen.KernelIdeal.Skeleton
public import proofs.«01_k».proof.Proof.RowMath
public import proofs.«01_k».proof.Proof.Words
public import Idealize.ShloMosaic.Lib.Pointwise

/-
  The two values the kernel forms from a block of 32 rows, as real numbers.
-/

@[expose] public section

set_option maxRecDepth 16384

noncomputable section

namespace Cert.KernelIdeal.Payload

open Cert.KernelIdeal Cert.KernelIdeal.Gen Idealize.ShloMosaic Idealize.ShloMosaic.TcCoe Idealize.SL.Sem
open Cert.RowMath Cert.Words

/-- The named constant "entropy" at the extended reals. -/
theorem entropy_val : (Named.named (F := Ideal) κ "entropy" (φ := .f32) 3216832975#32 : EReal)
    = ((1 / 10 * Real.log (387420489 / 999980000000000) : ℝ) : EReal) := rfl

/-- The named constant "fill" at the extended reals. -/
theorem fill_val : (Named.named (F := Ideal) κ "fill" (φ := .f32) 897988717#32 : EReal) = ((1 / 999980 : ℝ) : EReal) := rfl

/-- The named constant "fill_less_label" at the extended reals. -/
theorem fill_less_label_val : (Named.named (F := Ideal) κ "fill_less_label" (φ := .f32) 3211159126#32 : EReal)
    = ((-899981 / 999980 : ℝ) : EReal) := rfl

/-- A block's numerator: the sum of its rows' terms, for rows of reals and targets that are columns. -/
theorem pay6_eq (x0 : FVec Ideal S32x100000 .f32) (x1 : IVec S1x32x1 32) (f : Fin 32 → Fin 100000 → ℝ) (k : Fin 32 → Fin 100000)
    (hx : ∀ r c, x0 (ix2 r c) = ((f r c : ℝ) : EReal)) (hk : ∀ r, x1 (ix3 (0 : Fin 1) r (0 : Fin 1)) = BitVec.ofNat 32 (k r).val) :
    k0_pay6 (F := Ideal) x0 x1 = ((∑ r, rowTerm (f r) (k r) : ℝ) : EReal) := by
  pointwise [k0_pay6, k0_pay5, k0_pay4]
  rw [← sum_real]
  refine Finset.sum_congr rfl fun r _ => ?_
  rw [Fin.sum_univ_one, hk, ne_bit, WordCmp.select_decide, entropy_val, fill_val, fill_less_label_val,
    Finset.sum_congr rfl fun c _ => hx r c, sum_real, hx,
    Finset.sum_congr rfl fun c _ => (congrArg₂ (fun b v => Scalar.select b v (0 : EReal)) (eq_bit c (k r)) (hx r c)).trans (WordCmp.select_decide _ _ _),
    Finset.sum_ite_eq' Finset.univ, if_pos (Finset.mem_univ _), rowTerm]
  by_cases h : k r = 0
  · rw [if_neg (not_not.2 h), if_pos h]; rfl
  · rw [if_pos h, if_neg h]
    push_cast
    rfl

/-- A block's denominator: the number of its rows that aren't padding. -/
theorem pay7_eq (x1 : IVec S1x32x1 32) (k : Fin 32 → Fin 100000)
    (hk : ∀ r, x1 (ix3 (0 : Fin 1) r (0 : Fin 1)) = BitVec.ofNat 32 (k r).val) :
    k0_pay7 (F := Ideal) x1 = ((∑ r, (if k r = 0 then 0 else 1) : ℝ) : EReal) := by
  pointwise [k0_pay7, k0_pay5, k0_pay4]
  rw [← sum_real]
  refine Finset.sum_congr rfl fun r _ => ?_
  rw [Fin.sum_univ_one, hk, ne_bit]
  by_cases h : k r = 0
  · rw [if_pos h, decide_eq_false (not_not.2 h)]
    show (((BitVec.setWidth 32 (BitVec.ofBool false)).toInt : ℝ) : EReal) = _
    rw [show (BitVec.setWidth 32 (BitVec.ofBool false)).toInt = 0 by decide]
    norm_num
  · rw [if_neg h, decide_eq_true h]
    show (((BitVec.setWidth 32 (BitVec.ofBool true)).toInt : ℝ) : EReal) = _
    rw [show (BitVec.setWidth 32 (BitVec.ofBool true)).toInt = 1 by decide]
    norm_num

end Cert.KernelIdeal.Payload

end
-- ==== Proof.Blocks.lean ====
module

public import proofs.«01_k».proof.Proof.Sums
public import proofs.«01_k».proof.Proof.Payload
public import Idealize.ShloMosaic.Lib.Pipeline.ValueKit

/-
  The blocks the kernel reads at a grid point are 32 rows of the arguments, so its loss is a quotient of two sums over
  all 2048 rows.
-/

@[expose] public section

set_option maxRecDepth 16384

noncomputable section

namespace Cert.KernelIdeal.Blocks

open Cert.KernelIdeal Cert.KernelIdeal.Gen Cert.KernelIdeal.Sums Cert.KernelIdeal.Payload
open Idealize.ShloMosaic Idealize.ShloMosaic.TcCoe Idealize.SL.Sem
open Cert.RowMath Cert.Words

variable (m : (ℓ : Loc nD τ sig) → Buf (Elt Ideal) ℓ)

/-- The block index of either input window at grid point `t` is `t` on the first axis, 0 on the others. -/
theorem idx : ∀ t : Fin cfg0.N, ((cfg0.win 0).index t 0 = t.val ∧ (cfg0.win 0).index t 1 = 0)
    ∧ ((cfg0.win 1).index t 0 = t.val ∧ (cfg0.win 1).index t 1 = 0 ∧ (cfg0.win 1).index t 2 = 0) :=
  (by decide +kernel : ∀ t : Fin grid0.N, _)

/-- Row `r` of grid point `t`'s block of predictions is row `32 t + r` of the predictions. -/
theorem iblk0 (c : Dev nD) (t : Fin cfg0.N) (r : Fin 32) (l : Fin 100000) (h : t.val * 32 + r.val < 2048) :
    (iblk m c 0 t : FVec Ideal S32x100000 .f32) (ix2 r l) = m ((c : Thread nD τ).loc main_arg0) (ix2 (⟨t.val * 32 + r.val, h⟩ : Fin 2048) l) := by
  obtain ⟨e, e'⟩ := idx t
  blk_ext! [iblk, V, e]

/-- Row `r` of grid point `t`'s block of targets is target `32 t + r`. -/
theorem iblk1 (c : Dev nD) (t : Fin cfg0.N) (r : Fin 32) (h : t.val * 32 + r.val < 2048) :
    (iblk m c 1 t : IVec S1x32x1 32) (ix3 (0 : Fin 1) r (0 : Fin 1)) = m ((c : Thread nD τ).loc main_arg1) (ix1 (⟨t.val * 32 + r.val, h⟩ : Fin 2048)) := by
  obtain ⟨-, e0, e1, e2⟩ := idx t
  have hV : V m c main_v0 = shapeCast S64x32x1 (m ((c : Thread nD τ).loc main_arg1)) shapeCasts_S2048_S64x32x1 := by
    show StableHlo.after hostOps0 (fun b => m (c, b)) (Proc.tc.devRef main_v0) = _
    after_results
    rfl
  unfold iblk
  rw [View.read_apply]
  show V m c main_v0 _ = _
  rw [hV]
  refine shapeCast_apply _ _ _ _ ?_
  rw [Shape.rowMajor_val_three]
  refine (Shape.rowMajor_val_one (d := ![2048]) _).trans ?_
  show t.val * 32 + r.val = (((cfg0.win 1).index t 0 * 1 + 1 * 0) * 32 + ((cfg0.win 1).index t 1 * 32 + 1 * r.val)) * 1
    + ((cfg0.win 1).index t 2 * 1 + 1 * 0)
  rw [e0, e1, e2]
  omega

/-- For rows of reals and targets that are columns, the kernel's loss is the sum of all rows' terms over the number of
    rows that aren't padding. -/
theorem loss_eq (c : Dev nD) (f : Fin 2048 → Fin 100000 → ℝ) (k : Fin 2048 → Fin 100000)
    (hf : ∀ r l, m ((c : Thread nD τ).loc main_arg0) (ix2 r l) = ((f r l : ℝ) : EReal))
    (hk : ∀ r, m ((c : Thread nD τ).loc main_arg1) (ix1 r) = BitVec.ofNat 32 (k r).val) :
    loss m c = Ideal.div ((∑ r, rowTerm (f r) (k r) : ℝ) : EReal) ((∑ r, (if k r = 0 then 0 else 1) : ℝ) : EReal) := by
  have tiles : ∀ g : Fin 2048 → ℝ, ∑ r, g r = ∑ j : Fin 64, ∑ t : Fin 32, g ⟨j.val * 32 + t.val, by omega⟩ := fun g =>
    Fin.sum_univ_tiles 64 32 rfl g
  unfold loss
  rw [tiles, tiles, ← sum_real, ← sum_real]
  refine congrArg₂ Ideal.div (Finset.sum_congr rfl fun j _ => ?_) (Finset.sum_congr rfl fun j _ => ?_)
  · unfold num
    exact pay6_eq _ _ (fun t => f ⟨j.val * 32 + t.val, by omega⟩) (fun t => k ⟨j.val * 32 + t.val, by omega⟩)
      (fun r l => (iblk0 m c _ r l _).trans (hf _ _)) (fun r => (iblk1 m c _ r _).trans (hk _))
  · unfold den
    exact pay7_eq _ (fun t => k ⟨j.val * 32 + t.val, by omega⟩) (fun r => (iblk1 m c _ r _).trans (hk _))

end Cert.KernelIdeal.Blocks

end
-- ==== Proof.RefScatter.lean ====
module

public import proofs.«01_k».proof.Proof.Gen.ReferenceIdeal.Run
public import Idealize.ShloMosaic.Lib.Pointwise
public import Idealize.ShloMosaic.Lib.Routing.OpsSet
public import Idealize.ShloMosaic.Lib.Routing.OpsOne

/-
  The reference's two scatters, read at an entry of the matrix.
-/

@[expose] public section

set_option maxRecDepth 16384

noncomputable section

namespace Cert.ReferenceIdeal.Scatter

open Cert.ReferenceIdeal Cert.ReferenceIdeal.Gen Idealize.ShloMosaic Idealize.ShloMosaic.TcCoe Idealize.SL.Sem
open Idealize.ShloMosaic.Routing

/-- Axis `q` of the matrix starts update `i` at the `q`-th word of row `i` of the index table, read signed. -/
theorem start_row (idx : IVec S2048x2 32) (i : Fin 2048) (q : Fin 2) :
    scatter_S2048x100000_S2048x2_S2048_n_01_01_1.start (ix1 i) idx q = (idx (ix2 i q)).toInt := by
  unfold ScatterDims.start
  obtain rfl | rfl : q = 0 ∨ q = 1 := by omega
  · rw [dif_pos (by decide)]
    refine congrArg (fun z => BitVec.toInt (idx z)) (funext fun b => ?_)
    fin_cases b <;> rfl
  · rw [dif_pos (by decide)]
    refine congrArg (fun z => BitVec.toInt (idx z)) (funext fun b => ?_)
    fin_cases b <;> rfl

/-- The updates are scalars: no window coordinate. -/
theorem window_row (i : Fin 2048) (q : Fin 2) : scatter_S2048x100000_S2048x2_S2048_n_01_01_1.window (ix1 i) q = 0 := by
  unfold ScatterDims.window
  obtain rfl | rfl : q = 0 ∨ q = 1 := by omega
  · rw [dif_neg (by decide)]
  · rw [dif_neg (by decide)]

/-- A scatter of one value `v` per row, where row `i`'s index pair is (`i`, `k i`): column `k r` of row `r` is `v`, every
    other entry as it was. -/
theorem scatter_pairs {α : Type} (x : S2048x100000.Idx → α) (idx : IVec S2048x2 32) (u : S2048.Idx → α) (v : α) (k : Fin 2048 → Fin 100000)
    (h0 : ∀ i, (idx (ix2 i (0 : Fin 2))).toInt = (i.val : Int)) (h1 : ∀ i, (idx (ix2 i (1 : Fin 2))).toInt = ((k i).val : Int))
    (hu : ∀ j, u j = v) (r : Fin 2048) (c : Fin 100000) :
    Host.scatter scatter_S2048x100000_S2048x2_S2048_n_01_01_1 (fun _ b => b) x idx u (ix2 r c) = if c = k r then v else x (ix2 r c) := by
  have lands : ∀ i : Fin 2048, scatter_S2048x100000_S2048x2_S2048_n_01_01_1.resultIdx? (ix1 i) idx = some (ix2 r c) ↔ i = r ∧ c = k i := fun i => by
    refine (resultIdx?_ix2 _ (ix1 i) idx r c).trans ?_
    rw [start_row, start_row, window_row, window_row, h0, h1]
    omega
  by_cases h : c = k r
  · rw [if_pos h]
    exact scatter_set_hit _ x idx u _ v (fun j _ => hu j) (ix1 r) ((lands r).2 ⟨rfl, h⟩)
  · rw [if_neg h]
    refine scatter_set_miss _ x idx u _ fun j hj => h ?_
    obtain ⟨i, rfl⟩ : ∃ i : Fin 2048, j = ix1 i := ⟨j 0, eq_ix1 j⟩
    obtain ⟨rfl, e⟩ := (lands i).1 hj
    exact e

/-- A scatter of one value `v` down column 0. -/
theorem scatter_col0 {α : Type} (x : S2048x100000.Idx → α) (idx : IVec S1 32) (u : S2048.Idx → α) (v : α)
    (h0 : (idx (ix1 (0 : Fin 1))).toInt = ((0 : Fin 100000).val : Int)) (hu : ∀ j, u j = v) (r : Fin 2048) (c : Fin 100000) :
    Host.scatter scatter_S2048x100000_S1_S2048_0_1_1_0 (fun _ b => b) x idx u (ix2 r c) = if c = 0 then v else x (ix2 r c) := by
  have lands : ∀ i : Fin 2048, scatter_S2048x100000_S1_S2048_0_1_1_0.resultIdx? (ix1 i) idx = some (ix2 r c) ↔ i = r ∧ c = 0 := fun i =>
    lands_col scatter_S2048x100000_S1_S2048_0_1_1_0 rfl rfl idx 0 h0 i r c
  by_cases h : c = 0
  · rw [if_pos h]
    exact scatter_set_hit _ x idx u _ v (fun j _ => hu j) (ix1 r) ((lands r).2 ⟨rfl, h⟩)
  · rw [if_neg h]
    refine scatter_set_miss _ x idx u _ fun j hj => h ?_
    obtain ⟨i, rfl⟩ : ∃ i : Fin 2048, j = ix1 i := ⟨j 0, eq_ix1 j⟩
    exact ((lands i).1 hj).2

end Cert.ReferenceIdeal.Scatter

end
-- ==== Proof.RefValue.lean ====
module

public import proofs.«01_k».proof.Proof.RefScatter
public import proofs.«01_k».proof.Proof.RowMath
public import proofs.«01_k».proof.Proof.Words
public import Idealize.ShloMosaic.Lib.IdealHost
public import Idealize.ShloMosaic.Lib.IndicatorCount

/-
  The value of the reference for rows of reals and targets that are columns.
-/

@[expose] public section

set_option maxRecDepth 16384

noncomputable section

namespace Cert.ReferenceIdeal.Loss

open Cert.ReferenceIdeal Cert.ReferenceIdeal.Gen Cert.ReferenceIdeal.Scatter Idealize.ShloMosaic Idealize.ShloMosaic.TcCoe Idealize.SL.Sem
open Cert.RowMath Cert.Words

/-- The index pairs of the labels: row `i` holds `i` and target `i` (a negative one counted from the end). -/
def pairs (a : IVec S2048 32) : IVec S2048x2 32 :=
  concatenate S2048x2 1 [⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩, ⟨S2048x1, (broadcastInDim S2048x1 ![0] bcast_S2048_S2048x1_0 (select (cmpi .slt a (broadcastInDim S2048 ![] bcast_S_S2048 (constantI S_ 32 0#32))) (addi a (broadcastInDim S2048 ![] bcast_S_S2048 (constantI S_ 32 100000#32))) a))⟩] concatenates_S2048x1_S2048x1_S2048x2_d1

/-- The fill weight, a tenth over 99998, as a scalar array. -/
def fill : FVec Ideal S_ .f32 := Host.divf (Host.divf (constant S_ .f32 0x3F800000#32) (constant S_ .f32 0x41200000#32)) (constant S_ .f32 0x47C34F00#32)

/-- The label weight, one minus a tenth, as a scalar array. -/
def label : FVec Ideal S_ .f32 := subf (constant S_ .f32 0x3F800000#32) (Host.divf (constant S_ .f32 0x3F800000#32) (constant S_ .f32 0x41200000#32))

/-- The smoothed target distribution before padding rows are cleared. -/
def smooth (a : IVec S2048 32) : FVec Ideal S2048x100000 .f32 :=
  Host.scatter scatter_S2048x100000_S1_S2048_0_1_1_0 (fun _ b => b) (Host.scatter scatter_S2048x100000_S2048x2_S2048_n_01_01_1 (fun _ b => b) (broadcastInDim S2048x100000 ![] bcast_S_S2048x100000 fill) (pairs a) (broadcastInDim S2048 ![] bcast_S_S2048 label)) (broadcastInDim S1 ![] bcast_S_S1 (constantI S_ 32 0#32)) (broadcastInDim S2048 ![] bcast_S_S2048 (constant S_ .f32 0x00000000#32))

/-- The smoothed target distribution. -/
def weights (a : IVec S2048 32) : FVec Ideal S2048x100000 .f32 :=
  mulf (smooth a) (broadcastInDim S2048x100000 ![0, 1] bcast_S2048x1_S2048x100000_0_1 (uitofp .f32 (broadcastInDim S2048x1 ![0] bcast_S2048_S2048x1_0 (cmpi .ne a (broadcastInDim S2048 ![] bcast_S_S2048 (constantI S_ 32 0#32))))))

/-- The divergence terms. -/
def terms (x : FVec Ideal S2048x100000 .f32) (a : IVec S2048 32) : FVec Ideal S2048x100000 .f32 :=
  select (cmpf .ogt (weights a) (broadcastInDim S2048x100000 ![] bcast_S_S2048x100000 (constant S_ .f32 0x00000000#32))) (mulf (weights a) (subf (Host.log (select (cmpf .ogt (weights a) (broadcastInDim S2048x100000 ![] bcast_S_S2048x100000 (constant S_ .f32 0x00000000#32))) (weights a) (broadcastInDim S2048x100000 ![] bcast_S_S2048x100000 (id (constant S_ .f32 0x3F800000#32))))) x)) (broadcastInDim S2048x100000 ![] bcast_S_S2048x100000 (id (constant S_ .f32 0x00000000#32)))

/-- The number of rows that aren't padding. -/
def count (a : IVec S2048 32) : FVec Ideal S_ .f32 :=
  sitofp .f32 (Host.reduce IntOp.addi (extui 32 (cmpi .ne a (broadcastInDim S2048 ![] bcast_S_S2048 (constantI S_ 32 0#32))) natLt_1_32) (constantI S_ 32 0#32) reducesTo_S2048_S_d0 h_S_)

/-- The reference's result, in these pieces. -/
theorem res_eq (m : (ℓ : Loc nD τ sig) → Buf (Elt Ideal) ℓ) (c : Dev nD) :
    Value.res_main_v42 m c = Host.divf (Host.reduceAdd (terms (m ((c.tc : Thread nD τ).loc main_arg0)) (m ((c.tc : Thread nD τ).loc main_arg1))) (constant S_ .f32 0x00000000#32) reducesTo_S2048x100000_S_d0_1 h_S_) (count (m ((c.tc : Thread nD τ).loc main_arg1))) := rfl

variable (a : IVec S2048 32) (k : Fin 2048 → Fin 100000) (hk : ∀ r, a (ix1 r) = BitVec.ofNat 32 (k r).val)

/-- A target counted from the end when negative is the target, for one that is a column. -/
theorem wrap (n : Nat) (h : n < 100000) (w : BitVec 32) :
    (Scalar.select (IntOp.cmpi .slt (BitVec.ofNat 32 n) 0#32) w (BitVec.ofNat 32 n)).toInt = (n : Int) := by
  rw [WordCmp.cmpi_slt_ofNat (w := 32) (b := 0) (by omega) (by omega), WordCmp.select_decide, if_neg (Nat.not_lt_zero _),
    WordCmp.toInt_ofNat_of_lt (by omega)]

/-- The first of row `i`'s index pair is `i`. -/
theorem pairs_0 (i : Fin 2048) : (pairs a (ix2 i (0 : Fin 2))).toInt = (i.val : Int) := by
  unfold pairs
  pointwise
  exact wrap i.val (by omega) _

include hk in
/-- The second is the row's target. -/
theorem pairs_1 (i : Fin 2048) : (pairs a (ix2 i (1 : Fin 2))).toInt = ((k i).val : Int) := by
  unfold pairs
  pointwise
  rw [hk]
  exact wrap (k i).val (k i).isLt _

/-- A quotient of reals by a nonzero real is the reals' quotient. -/
theorem div_real (x : ℝ) {y : ℝ} (h : y ≠ 0) : Ideal.div (x : EReal) (y : EReal) = ((x / y : ℝ) : EReal) := by
  rw [Ideal.div_coe h, ← EReal.coe_mul, mul_one_div]

/-- The f32 pattern `0x41200000` is ten. -/
theorem ofBits_ten : Ideal.ofBits .f32 0x41200000#32 = ((10 : ℝ) : EReal) := by
  simp [Ideal.ofBits, Ideal.ieee, -EReal.coe_mul]; norm_num

/-- The f32 pattern `0x47C34F00` is 99998. -/
theorem ofBits_columns : Ideal.ofBits .f32 0x47C34F00#32 = ((99998 : ℝ) : EReal) := by
  simp [Ideal.ofBits, Ideal.ieee, -EReal.coe_mul]; norm_num

/-- The fill weight is 1/999980. -/
theorem fill_val : fill ix0 = ((1 / 999980 : ℝ) : EReal) := by
  unfold fill
  pointwise
  rw [show (1 : EReal) = ((1 : ℝ) : EReal) by norm_cast]
  refine (congrArg₂ Ideal.div (congrArg (Ideal.div _) ofBits_ten) ofBits_columns).trans ?_
  rw [div_real _ (by norm_num), div_real _ (by norm_num)]
  norm_num

/-- The label weight is 9/10. -/
theorem label_val : label ix0 = ((9 / 10 : ℝ) : EReal) := by
  unfold label
  pointwise
  rw [show (1 : EReal) = ((1 : ℝ) : EReal) by norm_cast]
  refine (congrArg (fun z => ((1 : ℝ) : EReal) - Ideal.div ((1 : ℝ) : EReal) z) ofBits_ten).trans ?_
  rw [div_real _ (by norm_num), ← EReal.coe_sub]
  norm_num

/-- The smoothed distribution's weight at column `c` of a row with target `k`. -/
def weight (k c : Fin 100000) : ℝ := if k = 0 ∨ c = 0 then 0 else if c = k then 9 / 10 else 1 / 999980

include hk in
/-- The distribution before padding rows are cleared, at an entry. -/
theorem smooth_val (r : Fin 2048) (c : Fin 100000) :
    smooth a (ix2 r c) = ((if c = 0 then 0 else if c = k r then 9 / 10 else 1 / 999980 : ℝ) : EReal) := by
  unfold smooth
  have h0 : ∀ j, (broadcastInDim S2048 ![] bcast_S_S2048 (constant S_ .f32 0x00000000#32) : FVec Ideal S2048 .f32) j = (0 : EReal) :=
    fun j => Ideal.ofBits_zero_f32
  have hl : ∀ j, (broadcastInDim S2048 ![] bcast_S_S2048 label : FVec Ideal S2048 .f32) j = ((9 / 10 : ℝ) : EReal) :=
    fun j => (congrArg label (Subsingleton.elim _ _)).trans label_val
  rw [scatter_col0 _ _ _ (0 : EReal) rfl h0 r c,
    scatter_pairs _ _ _ ((9 / 10 : ℝ) : EReal) k (pairs_0 a) (pairs_1 a k hk) hl r c,
    show broadcastInDim S2048x100000 ![] bcast_S_S2048x100000 fill (ix2 r c) = _ from (congrArg fill (Subsingleton.elim _ _)).trans fill_val]
  split_ifs <;> rfl

include hk in
/-- The distribution's value at an entry. -/
theorem weights_val (r : Fin 2048) (c : Fin 100000) : weights a (ix2 r c) = ((weight (k r) c : ℝ) : EReal) := by
  unfold weights
  pointwise
  rw [smooth_val a k hk, hk, ne_bit]
  have h : ∀ b : Bool, (FloatOps.uitofp FTy.f32 (BitVec.ofBool b) : Ideal .f32) = ((if b then 1 else 0 : ℝ) : EReal) := by
    intro b
    show (((BitVec.ofBool b).toNat : ℝ) : EReal) = _
    rw [BitVec.toNat_ofBool]
    cases b <;> norm_num
  rw [h, ← EReal.coe_mul, weight]
  by_cases h0 : k r = 0
  · simp [h0]
  · by_cases h1 : c = 0 <;> simp [h0, h1]

include hk in
/-- A divergence term, for real predictions. -/
theorem terms_val (x : FVec Ideal S2048x100000 .f32) (f : Fin 2048 → Fin 100000 → ℝ) (hf : ∀ r l, x (ix2 r l) = ((f r l : ℝ) : EReal))
    (r : Fin 2048) (c : Fin 100000) : terms x a (ix2 r c) = ((cell (f r) (k r) c : ℝ) : EReal) := by
  unfold terms
  pointwise
  rw [weights_val a k hk, hf]
  have pos : ∀ w l : ℝ, 0 < w → (if (0 : EReal) < (w : EReal) then (w : EReal) * (Ideal.log (if (0 : EReal) < (w : EReal) then (w : EReal)
      else id (constant S_ FTy.f32 1065353216#32 : FVec Ideal S_ .f32) ix0) - (l : EReal)) else id (constant S_ FTy.f32 0#32 : FVec Ideal S_ .f32) ix0)
      = ((w * (Real.log w - l) : ℝ) : EReal) := fun w l h => by
    rw [if_pos (EReal.coe_pos.2 h), if_pos (EReal.coe_pos.2 h), Ideal.log_coe, if_neg (not_le.2 h), ← EReal.coe_sub, ← EReal.coe_mul]
  unfold weight cell
  by_cases h0 : k r = 0 ∨ c = 0
  · rw [if_pos h0, if_pos h0, if_neg (fun h => lt_irrefl _ (EReal.coe_pos.1 h))]
    exact Ideal.ofBits_zero_f32
  · rw [if_neg h0, if_neg h0]
    by_cases h1 : c = k r
    · rw [if_pos h1, if_pos h1]
      exact pos _ _ (by norm_num)
    · rw [if_neg h1, if_neg h1]
      exact pos _ _ (by norm_num)

include hk in
/-- The number of rows whose target isn't 0, as a real. -/
theorem count_val : count a ix0 = ((∑ r, (if k r = 0 then 0 else 1) : ℝ) : EReal) := by
  unfold count
  pointwise
  rw [IndicatorCount.fold_addi_setWidth_eq_card (fun r : Fin 2048 => IntOp.cmpi .ne (a (ix1 r)) 0#32) Finset.univ]
  have e : (Finset.univ.filter fun r : Fin 2048 => IntOp.cmpi .ne (a (ix1 r)) 0#32 = 1#1) = Finset.univ.filter fun r => ¬ k r = 0 :=
    Finset.filter_congr fun r _ => by rw [hk, ne_bit, WordCmp.ofBool_decide_eq_one_iff]
  have hc : (Finset.univ.filter fun r : Fin 2048 => ¬ k r = 0).card ≤ 2048 := (Finset.card_le_univ _).trans (by simp)
  rw [e]
  show (((BitVec.ofNat 32 _).toInt : ℝ) : EReal) = _
  rw [WordCmp.toInt_ofNat_of_lt (by omega), Finset.card_filter]
  congr 1
  push_cast
  exact Finset.sum_congr rfl fun r _ => by split_ifs <;> rfl

include hk in
/-- The sum of all the divergence terms. -/
theorem total_val (x : FVec Ideal S2048x100000 .f32) (f : Fin 2048 → Fin 100000 → ℝ) (hf : ∀ r l, x (ix2 r l) = ((f r l : ℝ) : EReal)) :
    (Host.reduceAdd (terms x a) (constant S_ .f32 0x00000000#32) reducesTo_S2048x100000_S_d0_1 h_S_ : FVec Ideal S_ .f32) ix0
      = ((∑ r, rowTerm (f r) (k r) : ℝ) : EReal) := by
  pointwise
  rw [← sum_real]
  refine Finset.sum_congr rfl fun r _ => ?_
  rw [Finset.sum_congr rfl fun c _ => terms_val a k hk x f hf r c, sum_real, sum_cell]

/-- For rows of reals and targets that are columns, the reference's result is the sum of all rows' terms over the number
    of rows that aren't padding. -/
theorem res_val (m : (ℓ : Loc nD τ sig) → Buf (Elt Ideal) ℓ) (c : Dev nD) (f : Fin 2048 → Fin 100000 → ℝ) (k : Fin 2048 → Fin 100000)
    (hf : ∀ r l, m ((c.tc : Thread nD τ).loc main_arg0) (ix2 r l) = ((f r l : ℝ) : EReal))
    (hk : ∀ r, m ((c.tc : Thread nD τ).loc main_arg1) (ix1 r) = BitVec.ofNat 32 (k r).val) :
    Value.res_main_v42 m c = fun _ => Ideal.div ((∑ r, rowTerm (f r) (k r) : ℝ) : EReal) ((∑ r, (if k r = 0 then 0 else 1) : ℝ) : EReal) := by
  rw [res_eq]
  funext j
  obtain rfl : j = ix0 := Subsingleton.elim _ _
  exact congrArg₂ Ideal.div (total_val _ k hk _ f hf) (count_val _ k hk)

end Cert.ReferenceIdeal.Loss

end
-- ==== Proof.Pre.lean ====
module

public import proofs.«01_k».proof.Proof.Gen.Pre_finite_and_in_range
public import Idealize.ShloMosaic.Lib.Pointwise
public import Idealize.ShloMosaic.Lib.ReduceAll
public import Idealize.ShloMosaic.Lib.WordCmp

/-
  What the precondition says: the predictions are reals and the targets are columns.
-/

@[expose] public section

set_option maxRecDepth 16384

noncomputable section

namespace Cert.Pre_finite_and_in_range.Opened

open Cert.Pre_finite_and_in_range Cert.Pre_finite_and_in_range.Gen Idealize.ShloMosaic

instance : Subsingleton S_.Idx := ⟨fun a b => funext fun d => d.elim0⟩

/-- The precondition gives the predictions as reals `f r l` and the targets as columns `k r`. -/
theorem opened (x : FVec Ideal S2048x100000 .f32) (a : IVec S2048 32) (h : fn (F := Ideal) x a = fun _ => 1#1) :
    ∃ (f : Fin 2048 → Fin 100000 → ℝ) (k : Fin 2048 → Fin 100000),
      (∀ r l, x (ix2 r l) = ((f r l : ℝ) : EReal)) ∧ ∀ r, a (ix1 r) = BitVec.ofNat 32 (k r).val := by
  have h' : IntOp.andi _ _ = 1#1 := congrFun h ix0
  obtain ⟨hx, ha⟩ := IntOp.andi_eq_one.1 h'
  have fx : ∀ r l, ∃ y : ℝ, x (ix2 r l) = (y : EReal) := fun r l => by
    have e := Host.reduce_andi_all _ _ _ _ _ hx (ix2 r l)
    revert e
    pointwise
    rw [WordCmp.ofBool_decide_eq_one_iff]
    intro e
    have lt : max (x (ix2 r l) : EReal) (-(x (ix2 r l) : EReal)) < ⊤ := lt_of_lt_of_eq e (by simp [Ideal.ofBits, Ideal.ieee])
    obtain ⟨h1, h2⟩ := max_lt_iff.1 lt
    refine ⟨(x (ix2 r l) : EReal).toReal, (EReal.coe_toReal h1.ne fun hb => ?_).symm⟩
    rw [hb] at h2
    exact lt_irrefl _ h2
  have fa : ∀ r, ∃ c : Fin 100000, a (ix1 r) = BitVec.ofNat 32 c.val := fun r => by
    have e := Host.reduce_andi_all _ _ _ _ _ ha (ix1 r)
    have e' : IntOp.andi (IntOp.cmpi .sge (a (ix1 r)) 0#32) (IntOp.cmpi .slt (a (ix1 r)) (BitVec.ofNat 32 100000)) = 1#1 := e
    rw [WordCmp.andi_sge_zero_slt_ofNat (by omega), WordCmp.ofBool_decide_eq_one_iff] at e'
    exact ⟨⟨_, e'⟩, (by rw [BitVec.ofNat_toNat, BitVec.setWidth_eq])⟩
  choose f hf using fx
  choose k hk using fa
  exact ⟨f, k, hf, hk⟩

end Cert.Pre_finite_and_in_range.Opened

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_in_range
public import proofs.«01_k».proof.Proof.Gen.ReferenceIdeal.Run
public import proofs.«01_k».proof.Proof.Blocks
public import proofs.«01_k».proof.Proof.RefValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments unchanged and every semaphore at zero. -/
theorem frame_Kernel : Cert.quiescent_Kernel :=
  fun m ρ _ => Cert.Kernel.Gen.frame m ρ

/-- So does its idealization. -/
theorem frame_KernelIdeal : Cert.quiescent_KernelIdeal :=
  fun m ρ _ => Cert.KernelIdeal.Gen.frame m ρ

/-- So does the reference. -/
theorem frame_ReferenceIdeal : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- For finite predictions and targets in range the idealized kernel and the reference end with the same loss. -/
theorem algebraic : Cert.algebraic_KernelIdeal_ReferenceIdeal_pre_finite_and_in_range := by
  intro m g m' g' pre agree
  refine ⟨fun c _ => Cert.KernelIdeal.Sums.loss m c, Cert.KernelIdeal.Sums.run m g, ?_⟩
  refine (θ_run Cert.ReferenceIdeal.defs _ _).mono (fun r h c => ⟨(h c).1.trans ?_, (h c).2⟩)
    (Cert.ReferenceIdeal.Value.run (F := Ideal) m' g')
  obtain ⟨f, k, hf, hk⟩ := Cert.Pre_finite_and_in_range.Opened.opened _ _ (pre c)
  obtain ⟨e0, e1⟩ := agree c
  exact (Cert.ReferenceIdeal.Loss.res_val m' c f k (fun r l => (congrFun e0 _).trans (hf r l)) (fun r => (congrFun e1 _).trans (hk r))).trans
    (funext fun _ => (Cert.KernelIdeal.Blocks.loss_eq m c f k hf hk).symm)

/-- Everything `proofs.«01_k».proof.Defs` states. -/
theorem claim : Cert.Claim :=
  ⟨Cert.Kernel.Gen.facts, Cert.KernelIdeal.Gen.facts, Cert.ReferenceIdeal.Gen.facts, Cert.Pre_finite_and_in_range.Gen.facts,
   frame_Kernel, frame_KernelIdeal, fun m ρ _ => frame_KernelIdeal m ρ trivial,
   frame_ReferenceIdeal, fun m ρ _ => frame_ReferenceIdeal m ρ trivial,
   ⟨IdealRules.named_const.statement _ _ _ _ _ rfl, IdealRules.named_const.statement _ _ _ _ _ rfl, IdealRules.named_const.statement _ _ _ _ _ rfl⟩,
   algebraic⟩

end Cert.Proof

end
